-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1x1 : Shape := ⟨2, ![1, 1]⟩
abbrev S8192x8192 : Shape := ⟨2, ![8192, 8192]⟩
abbrev S512x1 : Shape := ⟨2, ![512, 1]⟩
abbrev S1x2048 : Shape := ⟨2, ![1, 2048]⟩
abbrev S512x2048 : Shape := ⟨2, ![512, 2048]⟩

abbrev nBuf : Space → Nat
  | .hbm => 17
  | .vmem => 13
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S_, .i32⟩
  | .hbm, ⟨5, _⟩ => ⟨S8192x1, .f32⟩
  | .hbm, ⟨6, _⟩ => ⟨S8192x1, .f32⟩
  | .hbm, ⟨7, _⟩ => ⟨S1x8192, .f32⟩
  | .hbm, ⟨8, _⟩ => ⟨S1x8192, .f32⟩
  | .hbm, ⟨9, _⟩ => ⟨S_, .f32⟩
  | .hbm, ⟨10, _⟩ => ⟨S1x1, .f32⟩
  | .hbm, ⟨11, _⟩ => ⟨S8192x8192, .i32⟩
  | .hbm, ⟨12, _⟩ => ⟨S8192x8192, .f32⟩
  | .hbm, ⟨13, _⟩ => ⟨S_, .i32⟩
  | .hbm, ⟨14, _⟩ => ⟨S8192x8192, .i32⟩
  | .hbm, ⟨15, _⟩ => ⟨S8192x8192, .i1⟩
  | .hbm, ⟨16, _⟩ => ⟨S8192x8192, .i1⟩
  | .local _ .vmem, ⟨0, _⟩ => ⟨S1x1, .f32⟩
  | .local _ .vmem, ⟨1, _⟩ => ⟨S512x1, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .i32⟩
  | .local _ .vmem, ⟨10, _⟩ => ⟨S512x2048, .i32⟩
  | .local _ .vmem, ⟨11, _⟩ => ⟨S512x2048, .f32⟩
  | .local _ .vmem, ⟨12, _⟩ => ⟨S512x2048, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S_, .i32⟩
  | .hbm, ⟨5, _⟩ => ⟨S8192x1, .f32⟩
  | .hbm, ⟨6, _⟩ => ⟨S8192x1, .f32⟩
  | .hbm, ⟨7, _⟩ => ⟨S1x8192, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x1, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .i1⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Proof.Haversine.Distance.lean ====
/-
  The mathematics of the distance: the great-circle distance of two points of the sphere, as the formula states it and as
  the kernel computes it from the half angles of each point, over the extended reals. The two are equal for ALL extended
  reals, the infinities included, so the certificate needs no precondition.
-/
module

public import Idealize.ShloMosaic.PureOps.Ideal
public import Idealize.ShloMosaic.Lib.IdealHost

@[expose] public section

noncomputable section

namespace Cert.Haversine

open Idealize.ShloMosaic

/-- One half, the factor of the kernel's half angles. -/
abbrev half : EReal := ((1 / 2 : ℝ) : EReal)
/-- Two, as both programs' literals denote it. -/
abbrev two : EReal := ((2 : ℝ) : EReal)
/-- The radius of the earth in kilometres. -/
abbrev radius : EReal := ((6371 : ℝ) : EReal)

/-- The distance from the square `a` of half the chord: the angle `2 · atan2 (√a) (√(1 - a))` times the radius. -/
def ofChord (a : EReal) : EReal :=
  radius * (two * Ideal.atan2 (Ideal.sqrt a) (Ideal.sqrt (1 - a)))

/-- The formula's square of half the chord, from the two points' latitudes and longitudes. -/
def chord (lat₁ lon₁ lat₂ lon₂ : EReal) : EReal :=
  Ideal.sin (Ideal.div (lat₂ - lat₁) two) * Ideal.sin (Ideal.div (lat₂ - lat₁) two)
    + Ideal.cos lat₁ * Ideal.cos lat₂
      * (Ideal.sin (Ideal.div (lon₂ - lon₁) two) * Ideal.sin (Ideal.div (lon₂ - lon₁) two))

/-- The sine of half of `y - x` from the sines and cosines of the half angles: `sin (y/2) cos (x/2) - cos (y/2) sin (x/2)`. -/
def crossHalf (x y : EReal) : EReal :=
  Ideal.sin (half * y) * Ideal.cos (half * x) - Ideal.cos (half * y) * Ideal.sin (half * x)

/-- The cosine of `x` from the sine of its half: `1 - 2 sin (x/2) sin (x/2)`. -/
def cosHalf (x : EReal) : EReal := 1 - two * Ideal.sin (half * x) * Ideal.sin (half * x)

/-- The kernel's square of half the chord. -/
def chordHalf (lat₁ lon₁ lat₂ lon₂ : EReal) : EReal :=
  crossHalf lat₁ lat₂ * crossHalf lat₁ lat₂
    + cosHalf lat₁ * cosHalf lat₂ * (crossHalf lon₁ lon₂ * crossHalf lon₁ lon₂)

/-! ## The infinities -/

/-- The square of an infinity is `⊤`. -/
theorem sq_infinite {x : EReal} (h : x = ⊤ ∨ x = ⊥) : x * x = ⊤ := by
  rcases h with rfl | rfl <;> simp

/-- A half of an infinity is that infinity. -/
theorem half_mul_infinite {x : EReal} (h : x = ⊤ ∨ x = ⊥) : half * x = ⊤ ∨ half * x = ⊥ := by
  rcases h with rfl | rfl
  · exact .inl (EReal.coe_mul_top_of_pos (by norm_num))
  · exact .inr (EReal.coe_mul_bot_of_pos (by norm_num))

/-- The sine of an infinity is `⊥`. -/
theorem sin_infinite {x : EReal} (h : x = ⊤ ∨ x = ⊥) : Ideal.sin x = ⊥ := by
  rcases h with rfl | rfl <;> rfl

/-- The cosine of an infinity is `⊥`. -/
theorem cos_infinite {x : EReal} (h : x = ⊤ ∨ x = ⊥) : Ideal.cos x = ⊥ := by
  rcases h with rfl | rfl <;> rfl

/-- The quotient of any extended real by two is its product with a half. -/
theorem div_two (x : EReal) : Ideal.div x two = x * half := by
  unfold Ideal.div
  rw [if_neg (by norm_num [two])]
  congr 1
  rw [← EReal.coe_inv]
  norm_num [half]

/-- A difference with an infinite operand is an infinity. -/
theorem sub_infinite {x y : EReal} (h : (x = ⊤ ∨ x = ⊥) ∨ (y = ⊤ ∨ y = ⊥)) : y - x = ⊤ ∨ y - x = ⊥ := by
  rcases h with (rfl | rfl) | (rfl | rfl)
  · exact .inr (EReal.sub_top y)
  · induction y using EReal.rec
    · right; simp
    · left; simp
    · left; simp
  · induction x using EReal.rec
    · left; simp
    · left; simp
    · right; simp
  · exact .inr (EReal.bot_sub x)

/-- The product of a real with `⊥`, by the real's sign. -/
theorem coe_mul_bot_cases (r : ℝ) :
    (0 < r ∧ (r : EReal) * ⊥ = ⊥) ∨ (r = 0 ∧ (r : EReal) * ⊥ = 0) ∨ (r < 0 ∧ (r : EReal) * ⊥ = ⊤) := by
  rcases lt_trichotomy r 0 with h | h | h
  · exact .inr (.inr ⟨h, EReal.coe_mul_bot_of_neg h⟩)
  · exact .inr (.inl ⟨h, by simp [h]⟩)
  · exact .inl ⟨h, EReal.coe_mul_bot_of_pos h⟩

/-- A combination `r · ⊥ - s · ⊥` of reals that are not both zero is an infinity. -/
theorem comb_infinite {r s : ℝ} (h : r ≠ 0 ∨ s ≠ 0) :
    (r : EReal) * ⊥ - (s : EReal) * ⊥ = ⊤ ∨ (r : EReal) * ⊥ - (s : EReal) * ⊥ = ⊥ := by
  rcases coe_mul_bot_cases r with ⟨_, hr⟩ | ⟨hr0, hr⟩ | ⟨_, hr⟩ <;>
    rcases coe_mul_bot_cases s with ⟨_, hs⟩ | ⟨hs0, hs⟩ | ⟨_, hs⟩ <;>
    rw [hr, hs] <;> first
    | (exfalso; rcases h with h | h; exacts [h hr0, h hs0])
    | (left; simp; done)
    | (right; simp; done)

/-- A sine and a cosine of one real are not both zero. -/
theorem sin_or_cos_ne_zero (t : ℝ) : Real.sin t ≠ 0 ∨ Real.cos t ≠ 0 := by
  by_contra hc
  push Not at hc
  have := Real.sin_sq_add_cos_sq t
  rw [hc.1, hc.2] at this
  norm_num at this

/-- With an infinite angle the kernel's sine of half the difference is an infinity. -/
theorem crossHalf_infinite {x y : EReal} (h : (x = ⊤ ∨ x = ⊥) ∨ (y = ⊤ ∨ y = ⊥)) :
    crossHalf x y = ⊤ ∨ crossHalf x y = ⊥ := by
  unfold crossHalf
  by_cases hx : x = ⊤ ∨ x = ⊥
  · rw [sin_infinite (half_mul_infinite hx), cos_infinite (half_mul_infinite hx)]
    by_cases hy : y = ⊤ ∨ y = ⊥
    · rw [sin_infinite (half_mul_infinite hy), cos_infinite (half_mul_infinite hy)]
      right; simp
    · push Not at hy
      lift y to ℝ using hy
      rw [← EReal.coe_mul, Ideal.sin_coe, Ideal.cos_coe]
      exact comb_infinite (sin_or_cos_ne_zero _)
  · have hy := h.resolve_left hx
    push Not at hx
    lift x to ℝ using hx
    rw [sin_infinite (half_mul_infinite hy), cos_infinite (half_mul_infinite hy), ← EReal.coe_mul, Ideal.sin_coe,
      Ideal.cos_coe, mul_comm ⊥, mul_comm ⊥]
    exact comb_infinite (sin_or_cos_ne_zero _).symm

/-! ## The two identities -/

/-- The square of the sine of half a difference, by the addition theorem: for all extended reals. -/
theorem crossHalf_sq (x y : EReal) :
    crossHalf x y * crossHalf x y = Ideal.sin (Ideal.div (y - x) two) * Ideal.sin (Ideal.div (y - x) two) := by
  by_cases h : (x = ⊤ ∨ x = ⊥) ∨ (y = ⊤ ∨ y = ⊥)
  · rw [sq_infinite (crossHalf_infinite h), div_two, mul_comm (y - x) half,
      sin_infinite (half_mul_infinite (sub_infinite h))]
    simp
  · push Not at h
    obtain ⟨hx, hy⟩ := h
    lift x to ℝ using hx
    lift y to ℝ using hy
    have key : crossHalf (x : EReal) (y : EReal) = Ideal.sin (Ideal.div ((y : EReal) - x) two) := by
      unfold crossHalf
      rw [div_two]
      simp only [half, ← EReal.coe_mul, ← EReal.coe_sub, Ideal.sin_coe, Ideal.cos_coe]
      rw [← Real.sin_sub]
      congr 2
      ring
    rw [key]

/-- The cosine from the sine of the half angle: for all extended reals. -/
theorem cosHalf_eq (x : EReal) : cosHalf x = Ideal.cos x := by
  unfold cosHalf
  by_cases h : x = ⊤ ∨ x = ⊥
  · rw [sin_infinite (half_mul_infinite h), cos_infinite h, EReal.coe_mul_bot_of_pos (by norm_num : (0 : ℝ) < 2)]
    simp
  · push Not at h
    lift x to ℝ using h
    have key : Real.cos x = 1 - 2 * Real.sin (1 / 2 * x) * Real.sin (1 / 2 * x) := by
      have h1 : x = 2 * (1 / 2 * x) := by ring
      have h2 := Real.sin_sq_add_cos_sq (1 / 2 * x)
      conv_lhs => rw [h1, Real.cos_two_mul]
      linarith
    rw [Ideal.cos_coe, key]
    simp only [half, two, ← EReal.coe_mul, Ideal.sin_coe]
    rw [EReal.coe_sub, EReal.coe_one]

/-- The kernel's square of half the chord is the formula's, for all extended reals. -/
theorem chordHalf_eq (lat₁ lon₁ lat₂ lon₂ : EReal) : chordHalf lat₁ lon₁ lat₂ lon₂ = chord lat₁ lon₁ lat₂ lon₂ := by
  unfold chordHalf chord
  rw [crossHalf_sq, crossHalf_sq, cosHalf_eq, cosHalf_eq]

/-! ## The programs' literals -/

/-- The programs' literal one half. -/
theorem ofBits_half : Ideal.ofBits .f32 0x3F000000#32 = half := by
  simp [Ideal.ofBits, Ideal.ieee, -EReal.coe_mul]; norm_num

/-- The programs' literal two. -/
theorem ofBits_two : Ideal.ofBits .f32 0x40000000#32 = two := by
  simp [Ideal.ofBits, Ideal.ieee, -EReal.coe_mul]; norm_num

/-- The programs' literal 6371. -/
theorem ofBits_radius : Ideal.ofBits .f32 0x45C71800#32 = radius := by
  simp [Ideal.ofBits, Ideal.ieee, -EReal.coe_mul]; norm_num

end Cert.Haversine

end
-- ==== Proof.Haversine.Block.lean ====
/-
  What one block computes: at an index of the (512, 2048) block the body's stored distance is the half-angle formula of the
  row's point and the column's point, and its stored mask word is the comparison of that distance with the span, as a word.
-/
module

public import proofs.«01_k».proof.Proof.Haversine.Distance
public import proofs.«01_k».proof.Proof.Gen.KernelIdeal.Frame
public import Idealize.ShloMosaic.Lib.Pipeline.Value
public import Idealize.ShloMosaic.Lib.ValueIdx
public import Idealize.ShloMosaic.Lib.Pointwise

@[expose] public section

noncomputable section

namespace Cert.Haversine.Block

open Idealize.ShloMosaic Cert.KernelIdeal Cert.KernelIdeal.Gen

/-- The origin of a rank-two window, spelled as a literal and as a constant function. -/
theorem origin : (![0, 0] : Fin 2 → Nat) = fun _ => 0 := funext fun a => by fin_cases a <;> rfl

/-- The place of a block's row in the column of row points. -/
abbrev rowIx (y : S512x2048.Idx) : S512x1.Idx := ix2 (y 0) (0 : Fin 1)
/-- The place of a block's column in the row of column points. -/
abbrev colIx (y : S512x2048.Idx) : S1x2048.Idx := ix2 (0 : Fin 1) (y 1)

/-- A column spread over the block, read at an index. -/
theorem spread_col {α : Type} (v : S512x1.Idx → α) (h : S512x1.Broadcasts S512x2048) (y : S512x2048.Idx) :
    broadcastTo S512x2048 v h y = v (rowIx y) :=
  broadcastTo_apply v h y (rowIx y) fun a => by fin_cases a <;> rfl

/-- A row spread over the block, read at an index. -/
theorem spread_row {α : Type} (v : S1x2048.Idx → α) (h : S1x2048.Broadcasts S512x2048) (y : S512x2048.Idx) :
    broadcastTo S512x2048 v h y = v (colIx y) :=
  broadcastTo_apply v h y (colIx y) fun a => by fin_cases a <;> rfl

/-- A shape cast to the same shape is the vector itself. -/
theorem cast_same {α : Type} {s : Shape} (v : s.Idx → α) (h : s.ShapeCasts s) : shapeCast s v h = v :=
  funext fun j => shapeCast_apply v h j j rfl

/-- The distance the body computes at an index, from the four blocks of coordinates. -/
theorem distance (x0 : Vec Ideal S1x1 .f32) (x1 x2 : Vec Ideal S512x1 .f32) (x3 x4 : Vec Ideal S1x2048 .f32)
    (y : S512x2048.Idx) :
    k0_pay1 (k0_pay18 x0 x1 x2 x3 x4) (k0_pay19 x0 x1 x2 x3 x4) (k0_pay20 x0 x1 x2 x3 x4) (k0_pay21 x0 x1 x2 x3 x4)
        (k0_pay22 x0 x1 x2 x3 x4) (k0_pay23 x0 x1 x2 x3 x4) (k0_pay24 x0 x1 x2 x3 x4) (k0_pay25 x0 x1 x2 x3 x4)
        (k0_pay26 x0 x1 x2 x3 x4) (k0_pay27 x0 x1 x2 x3 x4) y
      = ofChord (chordHalf (x1 (rowIx y)) (x2 (rowIx y)) (x3 (colIx y)) (x4 (colIx y))) := by
  unfold k0_pay18 k0_pay19 k0_pay20 k0_pay21 k0_pay22 k0_pay23 k0_pay24 k0_pay25 k0_pay26 k0_pay27
  rw [View.ld_unit_zero origin, View.ld_unit_zero origin, View.ld_unit_zero origin, View.ld_unit_zero origin]
  unfold k0_pay1 k0_pay16 k0_pay17 k0_pay8 k0_pay9 k0_pay10 k0_pay11 k0_pay12 k0_pay13 k0_pay14 k0_pay15
    k0_pay3 k0_pay4 k0_pay5 k0_pay6
  rw [cast_same, cast_same, cast_same, cast_same]
  unfold ofChord chordHalf crossHalf cosHalf
  rw [← ofBits_half, ← ofBits_two, ← ofBits_radius, ← Ideal.ofBits_one_f32]
  simp only [pointwise, spread_col, spread_row]

/-- What the body leaves in the distance block, at an index. -/
theorem out_distance (x0 : Vec Ideal S1x1 .f32) (x1 x2 : Vec Ideal S512x1 .f32) (x3 x4 : Vec Ideal S1x2048 .f32)
    (y : S512x2048.Idx) :
    out0_6 x0 x1 x2 x3 x4 y = ofChord (chordHalf (x1 (rowIx y)) (x2 (rowIx y)) (x3 (colIx y)) (x4 (colIx y))) := by
  unfold out0_6
  rw [View.canon_unit_zero origin]
  exact distance x0 x1 x2 x3 x4 y

/-- What the body leaves in the mask block, at an index: the comparison with the span, widened to a word. -/
theorem out_mask (x0 : Vec Ideal S1x1 .f32) (x1 x2 : Vec Ideal S512x1 .f32) (x3 x4 : Vec Ideal S1x2048 .f32)
    (y : S512x2048.Idx) :
    out0_5 x0 x1 x2 x3 x4 y
      = BitVec.setWidth 32 (Ideal.cmp .ole
          (ofChord (chordHalf (x1 (rowIx y)) (x2 (rowIx y)) (x3 (colIx y)) (x4 (colIx y))))
          (x0 (ix2 (0 : Fin 1) (0 : Fin 1)))) := by
  unfold out0_5
  rw [View.canon_unit_zero origin, ← distance x0 x1 x2 x3 x4 y]
  unfold k0_pay2 k0_pay7
  rw [View.ld_unit_zero origin]
  simp only [pointwise]

end Cert.Haversine.Block

end
-- ==== Proof.Haversine.Arrays.lean ====
/-
  What the kernel's two result arrays hold after the run: every grid point writes back its own (512, 2048) block, the blocks
  cover the (8192, 8192) arrays, and each block is that block of ONE function of the two indices.
-/
module

public import proofs.«01_k».proof.Proof.Haversine.Block
public import proofs.«01_k».proof.Proof.Gen.KernelIdeal.Run
public import Idealize.ShloMosaic.Lib.Pipeline.ValueKit.Geometry
public import Idealize.ShloMosaic.Lib.Claim

@[expose] public section

noncomputable section

namespace Cert.Haversine.Arrays

open Idealize.ShloMosaic Idealize.ShloMosaic.TcCoe Idealize.SL.Sem Cert.KernelIdeal Cert.KernelIdeal.Gen Cert.Haversine.Block

variable (m : (ℓ : Loc nD τ sig) → Buf (Elt Ideal) ℓ)

/-- The kernel's distance of row point `i` and column point `j`, from the argument arrays. -/
def dist (c : Dev nD) (i : S8192x8192.Idx) : EReal :=
  ofChord (chordHalf
    (m ((c.tc : Thread nD τ).loc main_arg0) (ix1 (i 0))) (m ((c.tc : Thread nD τ).loc main_arg1) (ix1 (i 0)))
    (m ((c.tc : Thread nD τ).loc main_arg2) (ix1 (i 1))) (m ((c.tc : Thread nD τ).loc main_arg3) (ix1 (i 1))))

/-- The span, converted to a float. -/
def span (c : Dev nD) : EReal :=
  (sitofp (F := Ideal) (s := S_) .f32 (m ((c.tc : Thread nD τ).loc main_arg4))) fun a => a.elim0

/-! ## The arrays the kernel reads: the arguments, reshaped -/

/-- The row points' latitudes, as a column. -/
theorem lat₁ (c : Dev nD) (k : S8192x1.Idx) :
    V m c main_v0 k = m ((c.tc : Thread nD τ).loc main_arg0) (ix1 (k 0)) := by
  entry_read
  refine shapeCast_apply _ _ _ _ ?_
  refine (Shape.rowMajor_val_one (d := S8192.size) _).trans
    (Eq.trans ?_ (Shape.rowMajor_val_two (d := S8192x1.size) k).symm)
  show (k 0).val = (k 0).val * 1 + (k 1).val
  have h : (k 1).val < 1 := (k 1).isLt
  omega

/-- The row points' longitudes, as a column. -/
theorem lon₁ (c : Dev nD) (k : S8192x1.Idx) :
    V m c main_v1 k = m ((c.tc : Thread nD τ).loc main_arg1) (ix1 (k 0)) := by
  entry_read
  refine shapeCast_apply _ _ _ _ ?_
  refine (Shape.rowMajor_val_one (d := S8192.size) _).trans
    (Eq.trans ?_ (Shape.rowMajor_val_two (d := S8192x1.size) k).symm)
  show (k 0).val = (k 0).val * 1 + (k 1).val
  have h : (k 1).val < 1 := (k 1).isLt
  omega

/-- The column points' latitudes, as a row. -/
theorem lat₂ (c : Dev nD) (k : S1x8192.Idx) :
    V m c main_v2 k = m ((c.tc : Thread nD τ).loc main_arg2) (ix1 (k 1)) := by
  entry_read
  refine shapeCast_apply _ _ _ _ ?_
  refine (Shape.rowMajor_val_one (d := S8192.size) _).trans
    (Eq.trans ?_ (Shape.rowMajor_val_two (d := S1x8192.size) k).symm)
  show (k 1).val = (k 0).val * 8192 + (k 1).val
  have h : (k 0).val < 1 := (k 0).isLt
  omega

/-- The column points' longitudes, as a row. -/
theorem lon₂ (c : Dev nD) (k : S1x8192.Idx) :
    V m c main_v3 k = m ((c.tc : Thread nD τ).loc main_arg3) (ix1 (k 1)) := by
  entry_read
  refine shapeCast_apply _ _ _ _ ?_
  refine (Shape.rowMajor_val_one (d := S8192.size) _).trans
    (Eq.trans ?_ (Shape.rowMajor_val_two (d := S1x8192.size) k).symm)
  show (k 1).val = (k 0).val * 8192 + (k 1).val
  have h : (k 0).val < 1 := (k 0).isLt
  omega

/-- The span, converted and reshaped to a (1, 1) array. -/
theorem span_entry (c : Dev nD) (k : S1x1.Idx) : V m c main_v5 k = span m c := by
  have h : V m c main_v5 = shapeCast S1x1
      (sitofp (F := Ideal) (s := S_) .f32 (m ((c.tc : Thread nD τ).loc main_arg4))) shapeCasts_S_S1x1 := by
    unfold V V0
    simp only [hostOps0, List.flatten_cons, List.flatten_nil, List.append_nil]
    after_results
    rfl
  rw [h]
  refine shapeCast_apply _ _ _ _ ?_
  have h0 := (S_.rowMajor fun a => a.elim0).isLt
  have h1 := (S1x1.rowMajor k).isLt
  have e0 : S_.numel = 1 := by decide
  have e1 : S1x1.numel = 1 := by decide
  omega

/-! ## Where each grid point's blocks lie -/

/-- The latitudes' column window follows the grid's first coordinate. -/
theorem at1 : ∀ t : Fin cfg0.N, win0_1.index t = ![(grid0.coords t 0).val, 0] :=
  (by decide +kernel : ∀ t : Fin grid0.N, _)
/-- So does the longitudes' column window. -/
theorem at2 : ∀ t : Fin cfg0.N, win0_2.index t = ![(grid0.coords t 0).val, 0] :=
  (by decide +kernel : ∀ t : Fin grid0.N, _)
/-- The latitudes' row window follows the grid's second coordinate. -/
theorem at3 : ∀ t : Fin cfg0.N, win0_3.index t = ![0, (grid0.coords t 1).val] :=
  (by decide +kernel : ∀ t : Fin grid0.N, _)
/-- So does the longitudes' row window. -/
theorem at4 : ∀ t : Fin cfg0.N, win0_4.index t = ![0, (grid0.coords t 1).val] :=
  (by decide +kernel : ∀ t : Fin grid0.N, _)
/-- The distances' window follows both coordinates. -/
theorem at6 : ∀ t : Fin cfg0.N, win0_6.index t = ![(grid0.coords t 0).val, (grid0.coords t 1).val] :=
  (by decide +kernel : ∀ t : Fin grid0.N, _)

/-! ## The result arrays -/

/-- The kernel's mask word of row point `i` and column point `j`: the comparison with the span, widened to a word. -/
def maskWord (c : Dev nD) (i : S8192x8192.Idx) : BitVec 32 :=
  BitVec.setWidth 32 (Ideal.cmp .ole (dist m c i) (span m c))

/-- A point's block of the column of row points' latitudes lies beside its block of distances. -/
theorem place1_6 (t : Fin cfg0.N) (y : S512x2048.Idx) :
    (((win0_1.blk t).view.emb (rowIx y) 0 : Fin _) : Nat) = ((win0_6.blk t).view.emb y 0 : Fin _) := by
  blk_simp [at1, at6]
  rfl

/-- A point's block of the column of row points' longitudes lies beside its block of distances. -/
theorem place2_6 (t : Fin cfg0.N) (y : S512x2048.Idx) :
    (((win0_2.blk t).view.emb (rowIx y) 0 : Fin _) : Nat) = ((win0_6.blk t).view.emb y 0 : Fin _) := by
  blk_simp [at2, at6]
  rfl

/-- A point's block of the row of column points' latitudes lies beside its block of distances. -/
theorem place3_6 (t : Fin cfg0.N) (y : S512x2048.Idx) :
    (((win0_3.blk t).view.emb (colIx y) 1 : Fin _) : Nat) = ((win0_6.blk t).view.emb y 1 : Fin _) := by
  blk_simp [at3, at6]
  rfl

/-- A point's block of the row of column points' longitudes lies beside its block of distances. -/
theorem place4_6 (t : Fin cfg0.N) (y : S512x2048.Idx) :
    (((win0_4.blk t).view.emb (colIx y) 1 : Fin _) : Nat) = ((win0_6.blk t).view.emb y 1 : Fin _) := by
  blk_simp [at4, at6]
  rfl

/-- The half-angle formula over one point's four blocks, at an index of the block, is the distance at the index's place in
    the array of distances. -/
theorem block_dist6 (c : Dev nD) (t : Fin cfg0.N) (y : S512x2048.Idx) :
    ofChord (chordHalf (iblk m c 1 t (rowIx y)) (iblk m c 2 t (rowIx y)) (iblk m c 3 t (colIx y)) (iblk m c 4 t (colIx y)))
      = dist m c ((win0_6.blk t).view.emb y) := by
  unfold dist
  blk_simp [iblk]
  rw [lat₁, lon₁, lat₂, lon₂]
  rw [show (win0_1.blk t).view.emb (rowIx y) 0 = (win0_6.blk t).view.emb y 0 from Fin.ext (place1_6 t y),
    show (win0_2.blk t).view.emb (rowIx y) 0 = (win0_6.blk t).view.emb y 0 from Fin.ext (place2_6 t y),
    show (win0_3.blk t).view.emb (colIx y) 1 = (win0_6.blk t).view.emb y 1 from Fin.ext (place3_6 t y),
    show (win0_4.blk t).view.emb (colIx y) 1 = (win0_6.blk t).view.emb y 1 from Fin.ext (place4_6 t y)]

/-- The same at the index's place in the mask. -/
theorem block_dist5 (c : Dev nD) (t : Fin cfg0.N) (y : S512x2048.Idx) :
    ofChord (chordHalf (iblk m c 1 t (rowIx y)) (iblk m c 2 t (rowIx y)) (iblk m c 3 t (colIx y)) (iblk m c 4 t (colIx y)))
      = dist m c ((win0_5.blk t).view.emb y) := by
  rw [block_dist6]
  congr 1

/-- The distance array after the run. -/
theorem dist_array (c : Dev nD) : (dats m 0 c).arrAt 6 cfg0.N = dist m c := by
  refine (dats m 0 c).arrAt_eq_of_covers 6 _ (by decide +kernel) fun t hf y => ?_
  blk_simp
  rw [after0_6, out_distance]
  exact block_dist6 m c t y

/-- The mask array after the run. -/
theorem mask_array (c : Dev nD) : (dats m 0 c).arrAt 5 cfg0.N = maskWord m c := by
  refine (dats m 0 c).arrAt_eq_of_covers 5 _ (by decide +kernel) fun t hf y => ?_
  blk_simp
  rw [after0_5, out_mask]
  unfold maskWord
  have h0 : iblk m c 0 t (ix2 (0 : Fin 1) (0 : Fin 1)) = span m c := by
    blk_simp [iblk]
    exact span_entry m c _
  rw [h0, ← block_dist5]

end Cert.Haversine.Arrays

end
-- ==== Proof.Haversine.Reference.lean ====
/-
  What the reference computes, at an index: the formula's distance of row point `i 0` and column point `i 1`, and its
  comparison with the span.
-/
module

public import proofs.«01_k».proof.Proof.Haversine.Distance
public import proofs.«01_k».proof.Proof.Gen.ReferenceIdeal.Run
public import Idealize.ShloMosaic.Lib.ValueIdx
public import Idealize.ShloMosaic.Lib.Pointwise

@[expose] public section

noncomputable section

namespace Cert.Haversine.Reference

open Idealize.ShloMosaic Idealize.ShloMosaic.TcCoe Idealize.SL.Sem Cert.ReferenceIdeal Cert.ReferenceIdeal.Gen

variable (m : (ℓ : Loc nD τ sig) → Buf (Elt Ideal) ℓ)

/-- The formula's distance of row point `i 0` and column point `i 1`, from the argument arrays. -/
def dist (c : Dev nD) (i : S8192x8192.Idx) : EReal :=
  ofChord (chord
    (m ((c.tc : Thread nD τ).loc main_arg0) (ix1 (i 0))) (m ((c.tc : Thread nD τ).loc main_arg1) (ix1 (i 0)))
    (m ((c.tc : Thread nD τ).loc main_arg2) (ix1 (i 1))) (m ((c.tc : Thread nD τ).loc main_arg3) (ix1 (i 1))))

/-- The span, converted to a float. -/
def span (c : Dev nD) : EReal :=
  (sitofp (F := Ideal) (s := S_) .f32 (m ((c.tc : Thread nD τ).loc main_arg4))) fun a => a.elim0

/-- The reference's second result is the formula's distance, at every index. -/
theorem dist_result (c : Dev nD) : Value.res_main_v33 m c = dist m c := by
  funext i
  unfold Value.res_main_v33 dist ofChord chord
  rw [← ofBits_two, ← ofBits_radius, ← Ideal.ofBits_one_f32]
  simp only [pointwise]
  rfl

/-- The reference's first result is that distance's comparison with the span, at every index. -/
theorem mask_result (c : Dev nD) (i : S8192x8192.Idx) :
    Value.res_main_v36 m c i = Ideal.cmp .ole (dist m c i) (span m c) := by
  have h : Value.res_main_v36 m c = cmpf .ole (Value.res_main_v33 m c : FVec Ideal S8192x8192 .f32)
      (broadcastInDim S8192x8192 ![] bcast_S_S8192x8192 (sitofp (F := Ideal) (s := S_) .f32
        (m ((c.tc : Thread nD τ).loc main_arg4)))) := by
    unfold Value.res_main_v36 Value.res_main_v33
    rfl
  rw [h, dist_result]
  unfold span
  simp only [pointwise]
  rfl

end Cert.Haversine.Reference

end
-- ==== Proof.lean ====
/-
  The certificate of the pairwise great-circle distances: from two sets of 8192 points each, given by latitude and
  longitude, the (8192, 8192) distances and the mask of those within a span.

  The runs and the frames are the generated ones. The value claim is put together here from what the kernel's two result
  arrays hold (`Haversine.Arrays`), what the reference computes (`Haversine.Reference`) and the equation of the two
  (`Haversine.Distance`), which holds of all extended reals: no precondition is stated.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Gen.ReferenceIdeal.Run
public import proofs.«01_k».proof.Proof.Haversine.Arrays
public import proofs.«01_k».proof.Proof.Haversine.Reference
public import Idealize.ShloMosaic.Adequacy
public import Idealize.ShloMosaic.Init
public import Idealize.ShloMosaic.Lib.Quiescent

@[expose] public section

noncomputable section

namespace Cert.Proof

open Idealize.ShloMosaic Idealize.SL.Sem Cert.Haversine

/-- A bit widened to a word is not zero exactly where the bit is set. -/
theorem bit_of_word (b : BitVec 1) : BitVec.ofBool (BitVec.setWidth 32 b != 0#32) = b := by
  revert b
  decide

/-- The kernel's and the reference's distances are one function of the arguments. -/
theorem dist_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Reference.dist m' c = Arrays.dist m c := by
  funext i
  unfold Reference.dist Arrays.dist
  rw [chordHalf_eq, h0, h1, h2, h3]

/-- The reference leaves its arguments alone and ends with every semaphore at zero. -/
theorem frame_reference : @Cert.quiescent_ReferenceIdeal Cert.ReferenceIdeal.Gen.facts := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The kernel and the reference end with equal distances and equal masks, over the extended reals. -/
theorem algebraic : @Cert.algebraic_KernelIdeal_ReferenceIdeal Cert.KernelIdeal.Gen.facts Cert.ReferenceIdeal.Gen.facts := by
  intro m g m' g' _ hagree
  refine ⟨fun c i => Ideal.cmp .ole (Arrays.dist m c i) (Arrays.span m c), fun c => Arrays.dist m c, ?_, ?_⟩
  · refine (θ_run Cert.KernelIdeal.defs _ _).mono (fun r h c => ?_) (Cert.KernelIdeal.Value.run (F := Ideal) m g)
    obtain ⟨hmask, hdist, hargs⟩ := h c
    refine ⟨hmask.trans ?_, hdist.trans (Arrays.dist_array m c), hargs⟩
    funext i
    have hw : Cert.KernelIdeal.Value.reg_main_v6_0 m c = Arrays.maskWord m c := Arrays.mask_array m c
    rw [hw]
    exact bit_of_word (Ideal.cmp .ole (Arrays.dist m c i) (Arrays.span m c))
  · refine (θ_run Cert.ReferenceIdeal.defs _ _).mono (fun r h c => ?_) (Cert.ReferenceIdeal.Value.run (F := Ideal) m' g')
    obtain ⟨hmask, hdist, hargs⟩ := h c
    obtain ⟨h0, h1, h2, h3, h4⟩ := hagree c
    have hd := dist_eq m m' c h0 h1 h2 h3
    refine ⟨hmask.trans ?_, hdist.trans ((Reference.dist_result m' c).trans hd), hargs⟩
    funext i
    refine (Reference.mask_result m' c i).trans ?_
    rw [hd]
    unfold Reference.span Arrays.span
    rw [h4]

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    algebraic⟩

end Cert.Proof

end
